-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S320000 : Shape := ⟨1, ![320000]⟩
abbrev S2x1x256x128 : Shape := ⟨4, ![2, 1, 256, 128]⟩
abbrev S128 : Shape := ⟨1, ![128]⟩
abbrev S128x128 : Shape := ⟨2, ![128, 128]⟩
abbrev S_ : Shape := ⟨0, ![]⟩
abbrev S2x1x128x128 : Shape := ⟨4, ![2, 1, 128, 128]⟩

class Facts : Prop where
  bcast_S_S10000x128 : S_.BroadcastsInDim S10000x128 (![] : Fin 0 → Fin S10000x128.rank)
  slices_S2x1x256x128_S2x1x128x128_0_0_0_0 : S2x1x256x128.Slices ![0, 0, 0, 0] S2x1x128x128
  bcast_S_S2x1x128x128 : S_.BroadcastsInDim S2x1x128x128 (![] : Fin 0 → Fin S2x1x128x128.rank)

variable [Facts]

def fn {F : FTy → Type} [FloatOps F] (main_arg0 : FVec F S10000x128 .f32) (main_arg1 : IVec S2x320000 32) (main_arg2 : FVec F S320000 .f32) (main_arg3 : FVec F S2x1x256x128 .f32) (main_arg4 : FVec F S128 .f32) (main_arg5 : FVec F S2x1x256x128 .f32) (main_arg6 : FVec F S128 .f32) (main_arg7 : FVec F S2x1x256x128 .f32) (main_arg8 : FVec F S128 .f32) (main_arg9 : FVec F S128x128 .f32) (main_arg10 : FVec F S128 .f32) : IVec S10000x128 1 × IVec S2x1x128x128 1 × IVec S2x1x128x128 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S2x1x128x128 .f32 := (extractStridedSlice S2x1x128x128 ![0, 0, 0, 0] · slices_S2x1x256x128_S2x1x128x128_0_0_0_0) main_arg3
  let main_v4 : FVec F S2x1x128x128 .f32 := Host.absf main_v3
  let main_cst_0 : FVec F S_ .f32 := constant S_ .f32 0x7F800000#32
  let main_v5 : FVec F S2x1x128x128 .f32 := broadcastInDim S2x1x128x128 ![] bcast_S_S2x1x128x128 main_cst_0
  let main_v6 : IVec S2x1x128x128 1 := cmpf .olt main_v4 main_v5
  let main_v7 : FVec F S2x1x128x128 .f32 := (extractStridedSlice S2x1x128x128 ![0, 0, 0, 0] · slices_S2x1x256x128_S2x1x128x128_0_0_0_0) main_arg7
  let main_v8 : FVec F S2x1x128x128 .f32 := Host.absf main_v7
  let main_cst_1 : FVec F S_ .f32 := constant S_ .f32 0x7F800000#32
  let main_v9 : FVec F S2x1x128x128 .f32 := broadcastInDim S2x1x128x128 ![] bcast_S_S2x1x128x128 main_cst_1
  let main_v10 : IVec S2x1x128x128 1 := cmpf .olt main_v8 main_v9
  (main_v2, main_v6, main_v10)
-- ==== Kernel.lean ====
abbrev S10000x128 : Shape := ⟨2, ![10000, 128]⟩
abbrev S2x320000 : Shape := ⟨2, ![2, 320000]⟩
abbrev S320000 : Shape := ⟨1, ![320000]⟩
abbrev S2x1x256x128 : Shape := ⟨4, ![2, 1, 256, 128]⟩
abbrev S128 : Shape := ⟨1, ![128]⟩
abbrev S128x128 : Shape := ⟨2, ![128, 128]⟩
abbrev S2x256x128 : Shape := ⟨3, ![2, 256, 128]⟩
abbrev S1x128 : Shape := ⟨2, ![1, 128]⟩
abbrev S5000x128 : Shape := ⟨2, ![5000, 128]⟩
abbrev S128x256 : Shape := ⟨2, ![128, 256]⟩
abbrev S1x128x128 : Shape := ⟨3, ![1, 128, 128]⟩
abbrev S5000x256 : Shape := ⟨2, ![5000, 256]⟩

abbrev nBuf : Space → Nat
  | .hbm => 17
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S2x1x256x128, .f32⟩
  | .hbm, ⟨4, _⟩ => ⟨S128, .f32⟩
  | .hbm, ⟨5, _⟩ => ⟨S2x1x256x128, .f32⟩
  | .hbm, ⟨6, _⟩ => ⟨S128, .f32⟩
  | .hbm, ⟨7, _⟩ => ⟨S2x1x256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x256x128, .f32⟩
  | .hbm, ⟨12, _⟩ => ⟨S2x256x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S10000x128, .f32⟩
  | .local _ .vmem, ⟨0, _⟩ => ⟨S5000x128, .f32⟩
  | .local _ .vmem, ⟨1, _⟩ => ⟨S5000x128, .f32⟩
  | .local _ .vmem, ⟨2, _⟩ => ⟨S2x256x128, .f32⟩
  | .local _ .vmem, ⟨3, _⟩ => ⟨S2x256x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S128x256, .bf16⟩
  | .local _ .vmem, ⟨11, _⟩ => ⟨S128x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S2x1x256x128 : Shape := ⟨4, ![2, 1, 256, 128]⟩
abbrev S128 : Shape := ⟨1, ![128]⟩
abbrev S128x128 : Shape := ⟨2, ![128, 128]⟩
abbrev S_ : Shape := ⟨0, ![]⟩
abbrev S10000x256 : Shape := ⟨2, ![10000, 256]⟩
abbrev S1x320000 : Shape := ⟨2, ![1, 320000]⟩
abbrev S10000 : Shape := ⟨1, ![10000]⟩
abbrev S320000x1 : Shape := ⟨2, ![320000, 1]⟩
abbrev S1x1x256x128 : Shape := ⟨4, ![1, 1, 256, 128]⟩
abbrev S256x128 : Shape := ⟨2, ![256, 128]⟩
abbrev S1x128 : Shape := ⟨2, ![1, 128]⟩

abbrev nBuf : Space → Nat
  | .hbm => 287
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S2x1x256x128, .f32⟩
  | 4 => ⟨S128, .f32⟩
  | 5 => ⟨S2x1x256x128, .f32⟩
  | 6 => ⟨S128, .f32⟩
  | 7 => ⟨S2x1x256x128, .f32⟩
  | 8 => ⟨S128, .f32⟩
  | 9 => ⟨S128x128, .f32⟩
  | 10 => ⟨S128, .f32⟩
  | 11 => ⟨S_, .f32⟩
  | 12 => ⟨S10000x128, .f32⟩
  | 13 => ⟨S10000x256, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S10000, .f32⟩
  | 20 => ⟨S320000x1, .i32⟩
  | 21 => ⟨S10000, .f32⟩
  | 22 => ⟨S_, .f32⟩
  | 23 => ⟨S10000, .f32⟩
  | 24 => ⟨S320000x1, .i32⟩
  | 25 => ⟨S10000, .f32⟩
  | 26 => ⟨S_, .f32⟩
  | 27 => ⟨S10000, .f32⟩
  | 28 => ⟨S10000, .i1⟩
  | 29 => ⟨S_, .f32⟩
  | 30 => ⟨S10000, .f32⟩
  | 31 => ⟨S10000, .i1⟩
  | 32 => ⟨S_, .f32⟩
  | 33 => ⟨S_, .f32⟩
  | 34 => ⟨S10000, .f32⟩
  | 35 => ⟨S10000, .f32⟩
  | 36 => ⟨S_, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S_, .f32⟩
  | 44 => ⟨S10000, .f32⟩
  | 45 => ⟨S10000, .i1⟩
  | 46 => ⟨S_, .f32⟩
  | 47 => ⟨S10000, .f32⟩
  | 48 => ⟨S10000, .i1⟩
  | 49 => ⟨S_, .f32⟩
  | 50 => ⟨S_, .f32⟩
  | 51 => ⟨S10000, .f32⟩
  | 52 => ⟨S10000, .f32⟩
  | 53 => ⟨S_, .f32⟩
  | 54 => ⟨S10000, .f32⟩
  | 55 => ⟨S10000, .f32⟩
  | 56 => ⟨S_, .f32⟩
  | 57 => ⟨S_, .f32⟩
  | 58 => ⟨S10000, .f32⟩
  | 59 => ⟨S10000, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000, .f32⟩
  | 69 => ⟨S320000, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000, .f32⟩
  | 79 => ⟨S320000, .f32⟩
  | 80 => ⟨S1x1x256x128, .f32⟩
  | 81 => ⟨S256x128, .f32⟩
  | 82 => ⟨S10000x128, .f32⟩
  | 83 => ⟨S1x1x256x128, .f32⟩
  | 84 => ⟨S256x128, .f32⟩
  | 85 => ⟨S10000x128, .f32⟩
  | 86 => ⟨S10000x128, .f32⟩
  | 87 => ⟨S1x128, .f32⟩
  | 88 => ⟨S10000x128, .f32⟩
  | 89 => ⟨S10000x128, .f32⟩
  | 90 => ⟨S10000x128, .f32⟩
  | 91 => ⟨S10000x128, .f32⟩
  | 92 => ⟨S_, .f32⟩
  | 93 => ⟨S10000x128, .f32⟩
  | 94 => ⟨S10000x128, .f32⟩
  | 95 => ⟨S_, .f32⟩
  | 96 => ⟨S10000x128, .f32⟩
  | 97 => ⟨S10000x128, .f32⟩
  | 98 => ⟨S10000x256, .f32⟩
  | 99 => ⟨S1x320000, .i32⟩
  | 100 => ⟨S320000, .i32⟩
  | 101 => ⟨S1x320000, .i32⟩
  | 102 => ⟨S320000, .i32⟩
  | 103 => ⟨S_, .f32⟩
  | 104 => ⟨S10000, .f32⟩
  | 105 => ⟨S320000x1, .i32⟩
  | 106 => ⟨S10000, .f32⟩
  | 107 => ⟨S_, .f32⟩
  | 108 => ⟨S10000, .f32⟩
  | 109 => ⟨S320000x1, .i32⟩
  | 110 => ⟨S10000, .f32⟩
  | 111 => ⟨S_, .f32⟩
  | 112 => ⟨S10000, .f32⟩
  | 113 => ⟨S10000, .i1⟩
  | 114 => ⟨S_, .f32⟩
  | 115 => ⟨S10000, .f32⟩
  | 116 => ⟨S10000, .i1⟩
  | 117 => ⟨S_, .f32⟩
  | 118 => ⟨S_, .f32⟩
  | 119 => ⟨S10000, .f32⟩
  | 120 => ⟨S10000, .f32⟩
  | 121 => ⟨S_, .f32⟩
  | 122 => ⟨S10000, .f32⟩
  | 123 => ⟨S10000, .f32⟩
  | 124 => ⟨S_, .f32⟩
  | 125 => ⟨S_, .f32⟩
  | 126 => ⟨S10000, .f32⟩
  | 127 => ⟨S10000, .f32⟩
  | _ => ⟨S10000x128, .f32⟩

abbrev hbmTy0_1 (i : Nat) : BufTy := match i % 128 with
  | 0 => ⟨S_, .f32⟩
  | 1 => ⟨S10000, .f32⟩
  | 2 => ⟨S10000, .i1⟩
  | 3 => ⟨S_, .f32⟩
  | 4 => ⟨S10000, .f32⟩
  | 5 => ⟨S10000, .i1⟩
  | 6 => ⟨S_, .f32⟩
  | 7 => ⟨S_, .f32⟩
  | 8 => ⟨S10000, .f32⟩
  | 9 => ⟨S10000, .f32⟩
  | 10 => ⟨S_, .f32⟩
  | 11 => ⟨S10000, .f32⟩
  | 12 => ⟨S10000, .f32⟩
  | 13 => ⟨S_, .f32⟩
  | 14 => ⟨S_, .f32⟩
  | 15 => ⟨S10000, .f32⟩
  | 16 => ⟨S10000, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000, .f32⟩
  | 26 => ⟨S320000, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000, .f32⟩
  | 36 => ⟨S320000, .f32⟩
  | 37 => ⟨S1x1x256x128, .f32⟩
  | 38 => ⟨S256x128, .f32⟩
  | 39 => ⟨S10000x128, .f32⟩
  | 40 => ⟨S1x1x256x128, .f32⟩
  | 41 => ⟨S256x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S10000x128, .f32⟩
  | 48 => ⟨S10000x128, .f32⟩
  | 49 => ⟨S_, .f32⟩
  | 50 => ⟨S10000x128, .f32⟩
  | 51 => ⟨S10000x128, .f32⟩
  | 52 => ⟨S_, .f32⟩
  | 53 => ⟨S10000x128, .f32⟩
  | 54 => ⟨S10000x128, .f32⟩
  | 55 => ⟨S10000x128, .f32⟩
  | 56 => ⟨S10000x256, .f32⟩
  | 57 => ⟨S1x320000, .i32⟩
  | 58 => ⟨S320000, .i32⟩
  | 59 => ⟨S1x320000, .i32⟩
  | 60 => ⟨S320000, .i32⟩
  | 61 => ⟨S_, .f32⟩
  | 62 => ⟨S10000, .f32⟩
  | 63 => ⟨S320000x1, .i32⟩
  | 64 => ⟨S10000, .f32⟩
  | 65 => ⟨S_, .f32⟩
  | 66 => ⟨S10000, .f32⟩
  | 67 => ⟨S320000x1, .i32⟩
  | 68 => ⟨S10000, .f32⟩
  | 69 => ⟨S_, .f32⟩
  | 70 => ⟨S10000, .f32⟩
  | 71 => ⟨S10000, .i1⟩
  | 72 => ⟨S_, .f32⟩
  | 73 => ⟨S10000, .f32⟩
  | 74 => ⟨S10000, .i1⟩
  | 75 => ⟨S_, .f32⟩
  | 76 => ⟨S_, .f32⟩
  | 77 => ⟨S10000, .f32⟩
  | 78 => ⟨S10000, .f32⟩
  | 79 => ⟨S_, .f32⟩
  | 80 => ⟨S10000, .f32⟩
  | 81 => ⟨S10000, .f32⟩
  | 82 => ⟨S_, .f32⟩
  | 83 => ⟨S_, .f32⟩
  | 84 => ⟨S10000, .f32⟩
  | 85 => ⟨S10000, .f32⟩
  | 86 => ⟨S_, .f32⟩
  | 87 => ⟨S10000, .f32⟩
  | 88 => ⟨S10000, .i1⟩
  | 89 => ⟨S_, .f32⟩
  | 90 => ⟨S10000, .f32⟩
  | 91 => ⟨S10000, .i1⟩
  | 92 => ⟨S_, .f32⟩
  | 93 => ⟨S_, .f32⟩
  | 94 => ⟨S10000, .f32⟩
  | 95 => ⟨S10000, .f32⟩
  | 96 => ⟨S_, .f32⟩
  | 97 => ⟨S10000, .f32⟩
  | 98 => ⟨S10000, .f32⟩
  | 99 => ⟨S_, .f32⟩
  | 100 => ⟨S_, .f32⟩
  | 101 => ⟨S10000, .f32⟩
  | 102 => ⟨S10000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S320000, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000, .f32⟩
  | 122 => ⟨S320000, .f32⟩
  | 123 => ⟨S1x1x256x128, .f32⟩
  | 124 => ⟨S256x128, .f32⟩
  | 125 => ⟨S10000x128, .f32⟩
  | 126 => ⟨S1x1x256x128, .f32⟩
  | 127 => ⟨S256x128, .f32⟩
  | _ => ⟨S10000x128, .f32⟩

abbrev hbmTy0_2 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x128, .f32⟩
  | 11 => ⟨S10000x128, .f32⟩
  | 12 => ⟨S_, .f32⟩
  | 13 => ⟨S10000x128, .f32⟩
  | 14 => ⟨S10000x128, .i1⟩
  | 15 => ⟨S_, .f32⟩
  | 16 => ⟨S10000x128, .f32⟩
  | 17 => ⟨S10000x128, .i1⟩
  | 18 => ⟨S_, .f32⟩
  | 19 => ⟨S_, .f32⟩
  | 20 => ⟨S10000x128, .f32⟩
  | 21 => ⟨S10000x128, .f32⟩
  | 22 => ⟨S10000x128, .f32⟩
  | 23 => ⟨S_, .f32⟩
  | 24 => ⟨S10000x128, .f32⟩
  | 25 => ⟨S10000x128, .f32⟩
  | 26 => ⟨S10000x128, .f32⟩
  | 27 => ⟨S10000x128, .f32⟩
  | 28 => ⟨S1x128, .f32⟩
  | 29 => ⟨S10000x128, .f32⟩
  | 30 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_v24 : Ref sig .tc := ⟨.hbm, 52, rfl⟩
abbrev main_cst_10 : Ref sig .tc := ⟨.hbm, 53, rfl⟩
abbrev main_v25 : Ref sig .tc := ⟨.hbm, 54, rfl⟩
abbrev main_v26 : Ref sig .tc := ⟨.hbm, 55, rfl⟩
abbrev main_cst_11 : Ref sig .tc := ⟨.hbm, 56, rfl⟩
abbrev main_call3_v0 : Ref sig .tc := ⟨.hbm, 57, rfl⟩
abbrev main_call3_v1 : Ref sig .tc := ⟨.hbm, 58, rfl⟩
abbrev main_v27 : Ref sig .tc := ⟨.hbm, 59, rfl⟩
abbrev main_c : Ref sig .tc := ⟨.hbm, 60, rfl⟩
abbrev main_v28 : Ref sig .tc := ⟨.hbm, 61, rfl⟩
abbrev main_v29 : Ref sig .tc := ⟨.hbm, 62, rfl⟩
abbrev main_c_12 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_13 : Ref sig .tc := ⟨.hbm, 70, rfl⟩
abbrev main_v36 : Ref sig .tc := ⟨.hbm, 71, rfl⟩
abbrev main_v37 : Ref sig .tc := ⟨.hbm, 72, rfl⟩
abbrev main_c_14 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_15 : Ref sig .tc := ⟨.hbm, 92, rfl⟩
abbrev main_v56 : Ref sig .tc := ⟨.hbm, 93, rfl⟩
abbrev main_v57 : Ref sig .tc := ⟨.hbm, 94, rfl⟩
abbrev main_cst_16 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_19 : Ref sig .tc := ⟨.hbm, 111, rfl⟩
abbrev main_v71 : Ref sig .tc := ⟨.hbm, 112, rfl⟩
abbrev main_v72 : Ref sig .tc := ⟨.hbm, 113, rfl⟩
abbrev main_cst_20 : Ref sig .tc := ⟨.hbm, 114, rfl⟩
abbrev main_v73 : Ref sig .tc := ⟨.hbm, 115, rfl⟩
abbrev main_v74 : Ref sig .tc := ⟨.hbm, 116, rfl⟩
abbrev main_cst_21 : Ref sig .tc := ⟨.hbm, 117, rfl⟩
abbrev main_call4_v0 : Ref sig .tc := ⟨.hbm, 118, rfl⟩
abbrev main_call4_v1 : Ref sig .tc := ⟨.hbm, 119, rfl⟩
abbrev main_v75 : Ref sig .tc := ⟨.hbm, 120, rfl⟩
abbrev main_cst_22 : Ref sig .tc := ⟨.hbm, 121, rfl⟩
abbrev main_v76 : Ref sig .tc := ⟨.hbm, 122, rfl⟩
abbrev main_v77 : Ref sig .tc := ⟨.hbm, 123, rfl⟩
abbrev main_cst_23 : Ref sig .tc := ⟨.hbm, 124, rfl⟩
abbrev main_call5_v0 : Ref sig .tc := ⟨.hbm, 125, rfl⟩
abbrev main_call5_v1 : Ref sig .tc := ⟨.hbm, 126, rfl⟩
abbrev main_v78 : Ref sig .tc := ⟨.hbm, 127, rfl⟩
abbrev main_cst_24 : Ref sig .tc := ⟨.hbm, 128, rfl⟩
abbrev main_v79 : Ref sig .tc := ⟨.hbm, 129, rfl⟩
abbrev main_v80 : Ref sig .tc := ⟨.hbm, 130, rfl⟩
abbrev main_cst_25 : Ref sig .tc := ⟨.hbm, 131, rfl⟩
abbrev main_v81 : Ref sig .tc := ⟨.hbm, 132, rfl⟩
abbrev main_v82 : Ref sig .tc := ⟨.hbm, 133, rfl⟩
abbrev main_cst_26 : Ref sig .tc := ⟨.hbm, 134, rfl⟩
abbrev main_call6_v0 : Ref sig .tc := ⟨.hbm, 135, rfl⟩
abbrev main_call6_v1 : Ref sig .tc := ⟨.hbm, 136, rfl⟩
abbrev main_v83 : Ref sig .tc := ⟨.hbm, 137, rfl⟩
abbrev main_cst_27 : Ref sig .tc := ⟨.hbm, 138, rfl⟩
abbrev main_v84 : Ref sig .tc := ⟨.hbm, 139, rfl⟩
abbrev main_v85 : Ref sig .tc := ⟨.hbm, 140, rfl⟩
abbrev main_cst_28 : Ref sig .tc := ⟨.hbm, 141, rfl⟩
abbrev main_call7_v0 : Ref sig .tc := ⟨.hbm, 142, rfl⟩
abbrev main_call7_v1 : Ref sig .tc := ⟨.hbm, 143, rfl⟩
abbrev main_v86 : Ref sig .tc := ⟨.hbm, 144, rfl⟩
abbrev main_c_29 : Ref sig .tc := ⟨.hbm, 145, rfl⟩
abbrev main_v87 : Ref sig .tc := ⟨.hbm, 146, rfl⟩
abbrev main_v88 : Ref sig .tc := ⟨.hbm, 147, rfl⟩
abbrev main_c_30 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_c_31 : Ref sig .tc := ⟨.hbm, 155, rfl⟩
abbrev main_v95 : Ref sig .tc := ⟨.hbm, 156, rfl⟩
abbrev main_v96 : Ref sig .tc := ⟨.hbm, 157, rfl⟩
abbrev main_c_32 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_33 : Ref sig .tc := ⟨.hbm, 177, rfl⟩
abbrev main_v115 : Ref sig .tc := ⟨.hbm, 178, rfl⟩
abbrev main_v116 : Ref sig .tc := ⟨.hbm, 179, rfl⟩
abbrev main_cst_34 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_35 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_36 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_37 : Ref sig .tc := ⟨.hbm, 197, rfl⟩
abbrev main_v131 : Ref sig .tc := ⟨.hbm, 198, rfl⟩
abbrev main_v132 : Ref sig .tc := ⟨.hbm, 199, rfl⟩
abbrev main_cst_38 : Ref sig .tc := ⟨.hbm, 200, rfl⟩
abbrev main_v133 : Ref sig .tc := ⟨.hbm, 201, rfl⟩
abbrev main_v134 : Ref sig .tc := ⟨.hbm, 202, rfl⟩
abbrev main_cst_39 : Ref sig .tc := ⟨.hbm, 203, rfl⟩
abbrev main_call8_v0 : Ref sig .tc := ⟨.hbm, 204, rfl⟩
abbrev main_call8_v1 : Ref sig .tc := ⟨.hbm, 205, rfl⟩
abbrev main_v135 : Ref sig .tc := ⟨.hbm, 206, rfl⟩
abbrev main_cst_40 : Ref sig .tc := ⟨.hbm, 207, rfl⟩
abbrev main_v136 : Ref sig .tc := ⟨.hbm, 208, rfl⟩
abbrev main_v137 : Ref sig .tc := ⟨.hbm, 209, rfl⟩
abbrev main_cst_41 : Ref sig .tc := ⟨.hbm, 210, rfl⟩
abbrev main_call9_v0 : Ref sig .tc := ⟨.hbm, 211, rfl⟩
abbrev main_call9_v1 : Ref sig .tc := ⟨.hbm, 212, rfl⟩
abbrev main_v138 : Ref sig .tc := ⟨.hbm, 213, rfl⟩
abbrev main_cst_42 : Ref sig .tc := ⟨.hbm, 214, rfl⟩
abbrev main_v139 : Ref sig .tc := ⟨.hbm, 215, rfl⟩
abbrev main_v140 : Ref sig .tc := ⟨.hbm, 216, rfl⟩
abbrev main_cst_43 : Ref sig .tc := ⟨.hbm, 217, rfl⟩
abbrev main_v141 : Ref sig .tc := ⟨.hbm, 218, rfl⟩
abbrev main_v142 : Ref sig .tc := ⟨.hbm, 219, rfl⟩
abbrev main_cst_44 : Ref sig .tc := ⟨.hbm, 220, rfl⟩
abbrev main_call10_v0 : Ref sig .tc := ⟨.hbm, 221, rfl⟩
abbrev main_call10_v1 : Ref sig .tc := ⟨.hbm, 222, rfl⟩
abbrev main_v143 : Ref sig .tc := ⟨.hbm, 223, rfl⟩
abbrev main_cst_45 : Ref sig .tc := ⟨.hbm, 224, rfl⟩
abbrev main_v144 : Ref sig .tc := ⟨.hbm, 225, rfl⟩
abbrev main_v145 : Ref sig .tc := ⟨.hbm, 226, rfl⟩
abbrev main_cst_46 : Ref sig .tc := ⟨.hbm, 227, rfl⟩
abbrev main_call11_v0 : Ref sig .tc := ⟨.hbm, 228, rfl⟩
abbrev main_call11_v1 : Ref sig .tc := ⟨.hbm, 229, rfl⟩
abbrev main_v146 : Ref sig .tc := ⟨.hbm, 230, rfl⟩
abbrev main_c_47 : Ref sig .tc := ⟨.hbm, 231, rfl⟩
abbrev main_v147 : Ref sig .tc := ⟨.hbm, 232, rfl⟩
abbrev main_v148 : Ref sig .tc := ⟨.hbm, 233, rfl⟩
abbrev main_c_48 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_c_49 : Ref sig .tc := ⟨.hbm, 241, rfl⟩
abbrev main_v155 : Ref sig .tc := ⟨.hbm, 242, rfl⟩
abbrev main_v156 : Ref sig .tc := ⟨.hbm, 243, rfl⟩
abbrev main_c_50 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_cst_51 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_call12_cst : Ref sig .tc := ⟨.hbm, 268, rfl⟩
abbrev main_call12_v0 : Ref sig .tc := ⟨.hbm, 269, rfl⟩
abbrev main_call12_v1 : Ref sig .tc := ⟨.hbm, 270, rfl⟩
abbrev main_call12_cst_0 : Ref sig .tc := ⟨.hbm, 271, rfl⟩
abbrev main_call12_v2 : Ref sig .tc := ⟨.hbm, 272, rfl⟩
abbrev main_call12_v3 : Ref sig .tc := ⟨.hbm, 273, rfl⟩
abbrev main_call12_cst_1 : Ref sig .tc := ⟨.hbm, 274, rfl⟩
abbrev main_call12_call0_v0 : Ref sig .tc := ⟨.hbm, 275, rfl⟩
abbrev main_call12_call0_v1 : Ref sig .tc := ⟨.hbm, 276, rfl⟩
abbrev main_call12_v4 : Ref sig .tc := ⟨.hbm, 277, rfl⟩
abbrev main_call12_v5 : Ref sig .tc := ⟨.hbm, 278, rfl⟩
abbrev main_call12_cst_2 : Ref sig .tc := ⟨.hbm, 279, rfl⟩
abbrev main_call12_v6 : Ref sig .tc := ⟨.hbm, 280, rfl⟩
abbrev main_call12_v7 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Tactic
public import Idealize.ShloMosaic.Lib.Pointwise

/-! What one grid point leaves in its output block and in the two weight buffers, as a function of its input blocks.

The first point packs the two gates' summed weights side by side (`packed`) and copies the output layer's weights; every
point then computes its block of rows from its rows of `x` and those two buffers. -/

@[expose] public section

noncomputable section

namespace Cert.KernelIdeal.Block

open Idealize.ShloMosaic Idealize.ShloMosaic.TcCoe Idealize.SL.Sem
open Cert.KernelIdeal Cert.KernelIdeal.Gen

variable {F : FTy → Type} [FloatOps F]

/-- The printed zero offsets of a rank-two block are zero on each axis. -/
theorem offsets_zero : (![0, 0] : Fin 2 → Nat) = fun _ => 0 := funext fun a => by fin_cases a <;> rfl

/-- The first gate's summed weights: the sum of the leading 128 rows of the two matrices of `w`. -/
def gateZ (w : Vec F S2x256x128 .f32) : FVec F S128x128 .bf16 :=
  k0_pay2 (View.ld w (Rect.unit ![0, 0, 0] ![1, 128, 128] inb_S2x256x128_S1x128x128_0_0_0))
    (View.ld w (Rect.unit ![1, 0, 0] ![1, 128, 128] inb_S2x256x128_S1x128x128_1_0_0))

/-- The second gate's summed weights, the same sum of its own two matrices. -/
def gateH (w : Vec F S2x256x128 .f32) : FVec F S128x128 .bf16 :=
  k0_pay3 (View.ld w (Rect.unit ![0, 0, 0] ![1, 128, 128] inb_S2x256x128_S1x128x128_0_0_0))
    (View.ld w (Rect.unit ![1, 0, 0] ![1, 128, 128] inb_S2x256x128_S1x128x128_1_0_0))

/-- The packed weights: columns 0 to 127 are the first gate's, columns 128 to 255 the second's. -/
def packed (w₁ w₂ : Vec F S2x256x128 .f32) : Vec F S128x256 .bf16 := fun i =>
  if h : (i 1).val < 128 then gateZ w₁ (ix2 (i 0) ⟨(i 1).val, h⟩)
  else gateH w₂ (ix2 (i 0) ⟨(i 1).val - 128, by have := (i 1).isLt; change (i 1).val < 256 at this; omega⟩)

/-- A packed column below 128 is the first gate's column. -/
theorem packed_left (w₁ w₂ : Vec F S2x256x128 .f32) (i : S128x256.Idx) (j : S128x128.Idx)
    (h0 : (i 0).val = (j 0).val) (h1 : (i 1).val = (j 1).val) : packed w₁ w₂ i = gateZ w₁ j := by
  have hj : (j 1).val < 128 := (j 1).isLt
  unfold packed
  rw [dif_pos (show (i 1).val < 128 by omega)]
  refine congrArg _ (funext fun a => ?_)
  fin_cases a <;> apply Fin.ext
  · exact h0
  · exact h1

/-- A packed column from 128 on is the second gate's column. -/
theorem packed_right (w₁ w₂ : Vec F S2x256x128 .f32) (i : S128x256.Idx) (j : S128x128.Idx)
    (h0 : (i 0).val = (j 0).val) (h1 : (i 1).val = 128 + (j 1).val) : packed w₁ w₂ i = gateH w₂ j := by
  unfold packed
  rw [dif_neg (show ¬ (i 1).val < 128 by omega)]
  refine congrArg _ (funext fun a => ?_)
  fin_cases a <;> apply Fin.ext
  · exact h0
  · show (i 1).val - 128 = (j 1).val
    omega

/-- The two stores that pack the weights, one to each half of the columns, the later one first. -/
def stores (w₁ w₂ : Vec F S2x256x128 .f32) : List (View.Piece (Elt F) S128x256 .bf16) :=
  [⟨Rect.unit ![0, 128] ![128, 128] inb_S128x256_S128x128_0_128, gateH w₂⟩,
        ⟨Rect.unit ![0, 0] ![128, 128] inb_S128x256_S128x128_0_0, gateZ w₁⟩]

/-- The two stores cover the buffer. -/
theorem stores_cover (w₁ w₂ : Vec F S2x256x128 .f32) (y : S128x256.Idx) : ∃ p ∈ stores w₁ w₂, y ∈ p.1.set := by
  have h0 : (y 0).val < 128 := (y 0).isLt
  have h1 : (y 1).val < 256 := (y 1).isLt
  unfold stores
  by_cases h : (y 1).val < 128
  · refine ⟨_, List.mem_cons_of_mem _ (List.mem_singleton_self _), ?_⟩
    rw [Rect.mem_set_unit]
    intro a
    fin_cases a
    · exact ⟨Nat.zero_le _, by show (y 0).val < 0 + 128; omega⟩
    · exact ⟨Nat.zero_le _, by show (y 1).val < 0 + 128; omega⟩
  · refine ⟨_, List.mem_cons_self, ?_⟩
    rw [Rect.mem_set_unit]
    intro a
    fin_cases a
    · exact ⟨Nat.zero_le _, by show (y 0).val < 0 + 128; omega⟩
    · exact ⟨by show 128 ≤ (y 1).val; omega, by show (y 1).val < 128 + 128; omega⟩

/-- The two stores leave the packed weights. -/
theorem canon_stores (w₁ w₂ : Vec F S2x256x128 .f32) : View.canon (stores w₁ w₂) = packed w₁ w₂ := by
  funext y
  refine View.canon_apply_of_pieces _ _ ?_ y (stores_cover w₁ w₂ y)
  intro p hp x
  unfold stores at hp
  simp only [List.mem_cons, List.not_mem_nil, or_false] at hp
  rcases hp with rfl | rfl
  · have h1 : (x 1).val < 128 := (x 1).isLt
    refine (packed_right w₁ w₂ _ x ?_ ?_).symm
    · show 0 + 1 * (x 0).val = (x 0).val
      omega
    · show 128 + 1 * (x 1).val = 128 + (x 1).val
      omega
  · have h1 : (x 1).val < 128 := (x 1).isLt
    refine (packed_left w₁ w₂ _ x ?_ ?_).symm
    · show 0 + 1 * (x 0).val = (x 0).val
      omega
    · show 0 + 1 * (x 1).val = (x 1).val
      omega

/-- A grid point's output block, from its input blocks and the two weight buffers. -/
def rows (x0 : Vec F S5000x128 .f32) (w : Vec F S128x256 .bf16) (x3 x4 : Vec F S1x128 .f32) (l : Vec F S128x128 .bf16)
    (x6 : Vec F S1x128 .f32) : FVec F S5000x128 .f32 :=
  k0_pay1 (k0_pay5 x0 w x3 x4 l) x6

/-- The first point leaves the packed weights in the wide weight buffer. -/
theorem scratchA_packed (c : Dev nD) (i : grid0.Coords) (arg1 : Memref sig .tc .vmem S5000x128 .f32) (harg1 : arg1.IsWhole)
    (arg2 : Memref sig .tc .vmem S2x256x128 .f32) (harg2 : arg2.IsWhole)
    (arg3 : Memref sig .tc .vmem S2x256x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S5000x128 .f32) (harg8 : arg8.IsWhole)
    (arg9 : Memref sig .tc .vmem S128x256 .bf16) (harg9 : arg9.IsWhole)
    (arg10 : Memref sig .tc .vmem S128x128 .bf16) (harg10 : arg10.IsWhole) (hc0 : cond0_0 i)
    (x0 : Vec F S5000x128 .f32) (x1 x2 : Vec F S2x256x128 .f32) (x3 x4 : Vec F S1x128 .f32)
    (x5 : Vec F S128x128 .f32) (x6 : Vec F S1x128 .f32) :
    sout0_A_0 c i arg1 harg1 arg2 harg2 arg3 harg3 arg4 harg4 arg5 harg5 arg6 harg6 arg7 harg7 arg8 harg8 arg9 harg9
      arg10 harg10 hc0 x0 x1 x2 x3 x4 x5 x6 = packed x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9
      arg10 harg10 hc0 x0 x1 x2 x3 x4 x5 x6)]
  unfold kernelRun0_A
  dsimp only
  sl_unfold_words
  simp only [View.readAt_eq_ld, harg1.read_unread, harg2.read_unread, harg3.read_unread, harg4.read_unread,
    harg5.read_unread, harg6.read_unread, harg7.read_unread]
  exact canon_stores x1 x2

/-- The first point leaves the output layer's weights in the other weight buffer. -/
theorem scratchA_lin (c : Dev nD) (i : grid0.Coords) (arg1 : Memref sig .tc .vmem S5000x128 .f32) (harg1 : arg1.IsWhole)
    (arg2 : Memref sig .tc .vmem S2x256x128 .f32) (harg2 : arg2.IsWhole)
    (arg3 : Memref sig .tc .vmem S2x256x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S5000x128 .f32) (harg8 : arg8.IsWhole)
    (arg9 : Memref sig .tc .vmem S128x256 .bf16) (harg9 : arg9.IsWhole)
    (arg10 : Memref sig .tc .vmem S128x128 .bf16) (harg10 : arg10.IsWhole) (hc0 : cond0_0 i)
    (x0 : Vec F S5000x128 .f32) (x1 x2 : Vec F S2x256x128 .f32) (x3 x4 : Vec F S1x128 .f32)
    (x5 : Vec F S128x128 .f32) (x6 : Vec F S1x128 .f32) :
    sout0_A_1 c i arg1 harg1 arg2 harg2 arg3 harg3 arg4 harg4 arg5 harg5 arg6 harg6 arg7 harg7 arg8 harg8 arg9 harg9
      arg10 harg10 hc0 x0 x1 x2 x3 x4 x5 x6 = k0_pay4 x5 := by
  unfold sout0_A_1
  rw [View.read_writes_eq_canon _ _ _ (scover0_A_1 c i arg1 harg1 arg2 harg2 arg3 harg3 arg4 harg4 arg5 harg5 arg6 harg6 arg7 harg7 arg8 harg8 arg9 harg9
      arg10 harg10 hc0 x0 x1 x2 x3 x4 x5 x6)]
  unfold kernelRun0_A
  dsimp only
  sl_unfold_words
  rw [View.canon_unit_zero offsets_zero]
  simp only [View.readAt_eq_ld, harg6.read_unread, View.ld_unit_zero (S := S128x128) offsets_zero]

/-- The first point's output block is computed from the weights it has just packed. -/
theorem outA (c : Dev nD) (i : grid0.Coords) (arg1 : Memref sig .tc .vmem S5000x128 .f32) (harg1 : arg1.IsWhole)
    (arg2 : Memref sig .tc .vmem S2x256x128 .f32) (harg2 : arg2.IsWhole)
    (arg3 : Memref sig .tc .vmem S2x256x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S5000x128 .f32) (harg8 : arg8.IsWhole)
    (arg9 : Memref sig .tc .vmem S128x256 .bf16) (harg9 : arg9.IsWhole)
    (arg10 : Memref sig .tc .vmem S128x128 .bf16) (harg10 : arg10.IsWhole) (hc0 : cond0_0 i)
    (x0 : Vec F S5000x128 .f32) (x1 x2 : Vec F S2x256x128 .f32) (x3 x4 : Vec F S1x128 .f32)
    (x5 : Vec F S128x128 .f32) (x6 : Vec F S1x128 .f32) :
    out0_A_7 c i arg1 harg1 arg2 harg2 arg3 harg3 arg4 harg4 arg5 harg5 arg6 harg6 arg7 harg7 arg8 harg8 arg9 harg9
      arg10 harg10 hc0 x0 x1 x2 x3 x4 x5 x6 = rows x0 (packed x1 x2) x3 x4 (k0_pay4 x5) x6 := by
  unfold out0_A_7
  rw [View.read_writes_eq_canon _ _ _ (cover0_A_7 c i arg1 harg1 arg2 harg2 arg3 harg3 arg4 harg4 arg5 harg5 arg6 harg6 arg7 harg7 arg8 harg8 arg9 harg9
      arg10 harg10 hc0 x0 x1 x2 x3 x4 x5 x6)]
  unfold kernelRun0_A
  dsimp only
  sl_unfold_words
  rw [View.canon_unit_zero offsets_zero]
  simp only [View.readAt_eq_ld, harg1.read_unread, harg2.read_unread, harg3.read_unread, harg4.read_unread,
    harg5.read_unread, harg6.read_unread, harg7.read_unread, View.ld_unit_zero (S := S5000x128) offsets_zero,
    View.ld_unit_zero (S := S1x128) offsets_zero, View.ld_unit_zero (S := S128x128) offsets_zero]
  rw [View.readCov_unit_zero (S := S128x128) _ offsets_zero]
  refine congrArg (fun w => k0_pay1 (k0_pay5 x0 w x3 x4 (k0_pay4 x5)) x6) ?_
  refine (View.readCov_eq_canon_ld _ (stores x1 x2) _ (stores_cover x1 x2)).trans ?_
  rw [canon_stores]
  exact View.ld_unit_zero (S := S128x256) offsets_zero _ _

/-- A later point's output block is computed from the weight buffers as it finds them. -/
theorem outB (c : Dev nD) (i : grid0.Coords) (arg1 : Memref sig .tc .vmem S5000x128 .f32) (harg1 : arg1.IsWhole)
    (arg2 : Memref sig .tc .vmem S2x256x128 .f32) (harg2 : arg2.IsWhole)
    (arg3 : Memref sig .tc .vmem S2x256x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S5000x128 .f32) (harg8 : arg8.IsWhole)
    (arg9 : Memref sig .tc .vmem S128x256 .bf16) (harg9 : arg9.IsWhole)
    (arg10 : Memref sig .tc .vmem S128x128 .bf16) (harg10 : arg10.IsWhole) (hc0 : ¬cond0_0 i)
    (x0 : Vec F S5000x128 .f32) (x1 x2 : Vec F S2x256x128 .f32) (x3 x4 : Vec F S1x128 .f32)
    (x5 : Vec F S128x128 .f32) (x6 : Vec F S1x128 .f32)
    (xs0 : Vec F S128x256 .bf16) (xs1 : Vec F S128x128 .bf16) :
    out0_B_7 c i arg1 harg1 arg2 harg2 arg3 harg3 arg4 harg4 arg5 harg5 arg6 harg6 arg7 harg7 arg8 harg8 arg9 harg9
      arg10 harg10 hc0 x0 x1 x2 x3 x4 x5 x6 xs0 xs1 =
      rows x0 xs0 x3 x4 xs1 x6 := by
  unfold out0_B_7
  rw [View.read_writes_eq_canon _ _ _ (cover0_B_7 c i arg1 harg1 arg2 harg2 arg3 harg3 arg4 harg4 arg5 harg5 arg6 harg6 arg7 harg7 arg8 harg8 arg9 harg9
      arg10 harg10 hc0 x0 x1 x2 x3 x4 x5 x6 xs0 xs1)]
  unfold kernelRun0_B
  dsimp only
  sl_unfold_words
  rw [View.canon_unit_zero offsets_zero]
  simp only [View.readAt_eq_ld, harg1.read_unread, harg4.read_unread, harg5.read_unread, harg7.read_unread,
    harg9.read_unread, harg10.read_unread, View.ld_unit_zero (S := S5000x128) offsets_zero,
    View.ld_unit_zero (S := S1x128) offsets_zero, View.ld_unit_zero (S := S128x256) offsets_zero,
    View.ld_unit_zero (S := S128x128) offsets_zero]
  rfl

end Cert.KernelIdeal.Block

end
-- ==== Proof.Cell.lean ====
module

public import Idealize.ShloMosaic.Lib.IdealHost
public import Idealize.ShloMosaic.Lib.Pointwise

/-! The mathematics of one entry, over the extended reals: the update gate, the activation, and the sums behind them. -/

@[expose] public section

noncomputable section

namespace Cert.Cell

open Idealize.ShloMosaic

/-- The half the kernel scales by is one half. -/
theorem half_word : Ideal.ofBits .bf16 16128#16 = (((1 / 2 : ℝ)) : EReal) := by
  simp [Ideal.ofBits, Ideal.ieee, -EReal.coe_mul]
  norm_num

/-- The reference's bound on absolute values is the top of the extended reals. -/
theorem inf_word : Ideal.ofBits .f32 2139095040#32 = ⊤ := by
  simp [Ideal.ofBits, Ideal.ieee]

/-- A number whose absolute value is below the top is a real number. -/
theorem exists_real_of_abs_lt {a : EReal} (h : max a (-a) < ⊤) : ∃ r : ℝ, a = (r : EReal) := by
  induction a with
  | bot => simp at h
  | top => simp at h
  | coe r => exact ⟨r, rfl⟩

/-- One minus the logistic function of a real number, by the hyperbolic tangent of its half. -/
theorem one_sub_logistic_real (r : ℝ) : 1 - (1 + Real.exp (-r))⁻¹ = 1 / 2 - 1 / 2 * Real.tanh (1 / 2 * r) := by
  have hp : 0 < Real.exp (1 / 2 * r) := Real.exp_pos _
  have hr : Real.exp (-r) = (Real.exp (1 / 2 * r))⁻¹ ^ 2 := by
    rw [← Real.exp_neg, ← Real.exp_nat_mul]
    congr 1
    push_cast
    ring
  have hn : Real.exp (-(1 / 2 * r)) = (Real.exp (1 / 2 * r))⁻¹ := Real.exp_neg _
  rw [Real.tanh_eq_sinh_div_cosh, Real.sinh_eq, Real.cosh_eq, hr, hn]
  generalize Real.exp (1 / 2 * r) = e at hp
  have h1 : (1 : ℝ) + e⁻¹ ^ 2 ≠ 0 := by positivity
  have h2 : e + e⁻¹ ≠ 0 := by positivity
  field_simp
  ring

/-- One minus the logistic function, by the hyperbolic tangent of the half: the same at the two infinities. -/
theorem one_sub_logistic (a : EReal) : 1 - Ideal.div 1 (1 + Ideal.exp (-a)) =
    ((1 / 2 : ℝ) : EReal) - ((1 / 2 : ℝ) : EReal) * Ideal.tanh (((1 / 2 : ℝ) : EReal) * a) := by
  have hpos : (0 : EReal) < ((1 / 2 : ℝ) : EReal) := by exact_mod_cast (by norm_num : (0 : ℝ) < 1 / 2)
  change 1 - Ideal.logistic a = _
  induction a with
  | bot =>
    rw [Ideal.logistic_bot, EReal.mul_bot_of_pos hpos, Ideal.tanh_bot, ← EReal.coe_one, ← EReal.coe_zero, ← EReal.coe_neg,
      ← EReal.coe_mul, ← EReal.coe_sub, ← EReal.coe_sub]
    norm_num
  | top =>
    rw [Ideal.logistic_top, EReal.mul_top_of_pos hpos, Ideal.tanh_top, ← EReal.coe_one,
      ← EReal.coe_mul, ← EReal.coe_sub, ← EReal.coe_sub]
    norm_num
  | coe r =>
    rw [Ideal.logistic_coe, ← EReal.coe_mul, Ideal.tanh_coe, ← EReal.coe_one, ← EReal.coe_mul, ← EReal.coe_sub,
      ← EReal.coe_sub, one_sub_logistic_real]

/-- A gate's value before its nonlinearity, the two weights summed first. -/
def folded (x w₀ w₁ : Fin 128 → EReal) (b : EReal) : EReal := ∑ k, x k * (w₀ k + w₁ k) + b

/-- The same value with one sum of products per weight. -/
def split (x w₀ w₁ : Fin 128 → EReal) (b : EReal) : EReal := (∑ k, x k * w₀ k + ∑ k, x k * w₁ k) + b

/-- The two agree when the row and both weights are real numbers. -/
theorem folded_eq_split (x w₀ w₁ : Fin 128 → EReal) (b : EReal) (hx : ∀ k, ∃ r : ℝ, x k = (r : EReal))
    (h₀ : ∀ k, ∃ r : ℝ, w₀ k = (r : EReal)) (h₁ : ∀ k, ∃ r : ℝ, w₁ k = (r : EReal)) :
    folded x w₀ w₁ b = split x w₀ w₁ b := by
  unfold folded split
  rw [← Finset.sum_add_distrib]
  refine congrArg (· + b) (Finset.sum_congr rfl fun k _ => ?_)
  obtain ⟨r, hr⟩ := hx k
  obtain ⟨s, hs⟩ := h₀ k
  obtain ⟨t, ht⟩ := h₁ k
  rw [hr, hs, ht, ← EReal.coe_add, ← EReal.coe_mul, ← EReal.coe_mul, ← EReal.coe_mul, ← EReal.coe_add, mul_add]

/-- A sum over 256 rows of products whose left factor vanishes from row 128 on is the sum over the leading 128 rows. -/
theorem sum_padded (f g : Fin 256 → EReal) (x w : Fin 128 → EReal)
    (hf : ∀ k : Fin 128, f ⟨k.val, by omega⟩ = x k) (hz : ∀ k : Fin 256, 128 ≤ k.val → f k = 0)
    (hg : ∀ k : Fin 128, g ⟨k.val, by omega⟩ = w k) : ∑ k, f k * g k = ∑ k, x k * w k := by
  rw [show (∑ k, f k * g k) = ∑ k : Fin (128 + 128), f k * g k from rfl, Fin.sum_univ_add]
  rw [Finset.sum_eq_zero (s := Finset.univ) (f := fun k : Fin 128 => f (Fin.natAdd 128 k) * g (Fin.natAdd 128 k))
    (fun k _ => by rw [hz _ (by simp), zero_mul]), add_zero]
  exact Finset.sum_congr rfl fun k _ => congrArg₂ (· * ·) (hf k) (hg k)

/-- The kernel's hidden value: the gate's complement as a hyperbolic tangent, times the candidate. -/
def hidden (az ah : EReal) : EReal :=
  (((1 / 2 : ℝ) : EReal) - ((1 / 2 : ℝ) : EReal) * Ideal.tanh (((1 / 2 : ℝ) : EReal) * az)) * Ideal.tanh ah

/-- The reference's hidden value: the zero state through the gate, plus the candidate through its complement. -/
theorem hidden_eq (az ah : EReal) : Ideal.div 1 (1 + Ideal.exp (-az)) * 0
    + (1 - Ideal.div 1 (1 + Ideal.exp (-az))) * Ideal.tanh ah = hidden az ah := by
  rw [mul_zero, zero_add, one_sub_logistic]
  rfl

/-- The activation: the value where positive, its exponential less one elsewhere. -/
def act (h : EReal) : EReal := if 0 < h then h else Ideal.exp h - 1

/-- The reference's activation, which guards the exponential's argument as well, is the same. -/
theorem act_eq (h : EReal) : (if 0 < h then h else Ideal.exp (if 0 < h then 0 else h) - 1) = act h := by
  unfold act
  split_ifs <;> rfl

/-- One entry of the result: the activated hidden row against a column of the output weights, plus its bias. -/
def entry (az ah : Fin 128 → EReal) (l : Fin 128 → EReal) (b : EReal) : EReal :=
  ∑ j, act (hidden (az j) (ah j)) * l j + b

end Cert.Cell

end
-- ==== Proof.KernelValue.lean ====
module

public import proofs.«01_k».proof.Proof.Block
public import proofs.«01_k».proof.Proof.Cell
public import Idealize.ShloMosaic.Lib.Claim
public import Idealize.ShloMosaic.Lib.Pipeline.ValueKit.Point

/-! What the kernel's result array holds at each entry, in terms of the arguments. -/

@[expose] public section

noncomputable section

namespace Cert.KernelIdeal.Block

open Idealize.ShloMosaic Idealize.ShloMosaic.TcCoe Idealize.SL.Sem
open Cert.KernelIdeal Cert.KernelIdeal.Gen Cert.KernelIdeal.Value

section Points

variable {F : FTy → Type} [FloatOps F] (m : (ℓ : Loc nD τ sig) → Buf (Elt F) ℓ)

/-- After every point the two weight buffers hold what the first point's blocks of the weights give, and the output block
    is computed from them and the point's own blocks. -/
theorem outsAt_eq (c : Dev nD) (t : Fin cfg0.N) : outsAt0 m c t.val t.isLt =
    (rows (iblk m c 0 t) (packed (iblk m c 1 t0_0) (iblk m c 2 t0_0)) (iblk m c 3 t) (iblk m c 4 t)
      (k0_pay4 (iblk m c 5 t0_0)) (iblk m c 6 t),
      packed (iblk m c 1 t0_0) (iblk m c 2 t0_0), k0_pay4 (iblk m c 5 t0_0)) := by
  have e0 : outsAt0 m c t0_0.val t0_0.isLt = (rows (iblk m c 0 t0_0) (packed (iblk m c 1 t0_0) (iblk m c 2 t0_0))
      (iblk m c 3 t0_0) (iblk m c 4 t0_0) (k0_pay4 (iblk m c 5 t0_0)) (iblk m c 6 t0_0),
      packed (iblk m c 1 t0_0) (iblk m c 2 t0_0), k0_pay4 (iblk m c 5 t0_0)) := by
    rw [outsAt0_A m c t0_0 rfl, outA, scratchA_packed, scratchA_lin]
  have hN : t.val < 2 := lt_of_lt_of_eq t.isLt (show cfg0.N = 2 from N_0)
  rcases (show t.val = 0 ∨ t.val = 1 by omega) with h | h
  · obtain rfl : t = t0_0 := Fin.ext h
    exact e0
  · obtain rfl : t = t0_1 := Fin.ext h
    rw [outsAt0_B m c t0_1 (by decide), outB]
    have e0' : outsAt0 m c (t0_1.val - 1) (Nat.lt_of_le_of_lt (Nat.sub_le _ _) t0_1.isLt)
      = outsAt0 m c t0_0.val t0_0.isLt := rfl
    rw [e0', e0]
    rfl

end Points

/-- The output block at an entry, from the blocks and the weight buffers. -/
theorem rows_apply (x0 : Vec Ideal S5000x128 .f32) (w : Vec Ideal S128x256 .bf16) (x3 x4 : Vec Ideal S1x128 .f32)
    (l : Vec Ideal S128x128 .bf16) (x6 : Vec Ideal S1x128 .f32) (r : Fin 5000) (o : Fin 128) :
    rows x0 w x3 x4 l x6 (ix2 r o) = Cell.entry
      (fun j => ∑ k, x0 (ix2 r k) * w (ix2 k ⟨j.val, by omega⟩) + x3 (ix2 0 j))
      (fun j => ∑ k, x0 (ix2 r k) * w (ix2 k ⟨128 + j.val, by omega⟩) + x4 (ix2 0 j))
      (fun j => l (ix2 j o)) (x6 (ix2 0 o)) := by
  unfold rows k0_pay1 k0_pay5
  pointwise
  rw [Cell.half_word]
  rfl

/-- The first gate's summed weights at an entry. -/
theorem gateZ_apply (w : Vec Ideal S2x256x128 .f32) (k o : Fin 128) :
    gateZ w (ix2 k o) = w (ix3 0 ⟨k.val, by omega⟩ o) + w (ix3 1 ⟨k.val, by omega⟩ o) := by
  unfold gateZ k0_pay2
  pointwise

/-- The second gate's summed weights at an entry. -/
theorem gateH_apply (w : Vec Ideal S2x256x128 .f32) (k o : Fin 128) :
    gateH w (ix2 k o) = w (ix3 0 ⟨k.val, by omega⟩ o) + w (ix3 1 ⟨k.val, by omega⟩ o) := by
  unfold gateH k0_pay3
  pointwise

/-- The copy of the output layer's weights at an entry. -/
theorem lin_apply (w : Vec Ideal S128x128 .f32) (k o : Fin 128) : k0_pay4 w (ix2 k o) = w (ix2 k o) := by
  unfold k0_pay4
  pointwise

/-- The packed weights at a column of the first half. -/
theorem packed_left_apply (w₁ w₂ : Vec Ideal S2x256x128 .f32) (k j : Fin 128) :
    packed w₁ w₂ (ix2 k ⟨j.val, by omega⟩) = w₁ (ix3 0 ⟨k.val, by omega⟩ j) + w₁ (ix3 1 ⟨k.val, by omega⟩ j) := by
  rw [packed_left w₁ w₂ _ (ix2 k j) rfl rfl, gateZ_apply]

/-- The packed weights at a column of the second half. -/
theorem packed_right_apply (w₁ w₂ : Vec Ideal S2x256x128 .f32) (k j : Fin 128) :
    packed w₁ w₂ (ix2 k ⟨128 + j.val, by omega⟩) = w₂ (ix3 0 ⟨k.val, by omega⟩ j) + w₂ (ix3 1 ⟨k.val, by omega⟩ j) := by
  rw [packed_right w₁ w₂ _ (ix2 k j) rfl rfl, gateH_apply]

variable (m : (ℓ : Loc nD τ sig) → Buf (Elt Ideal) ℓ)

/-- Window 0 takes one block of rows per point. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 takes its whole array at every point. -/
theorem index1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- Window 2 takes its whole array at every point. -/
theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

/-- Window 3 takes its whole array at every point. -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4 takes its whole array at every point. -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5 takes its whole array at every point. -/
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 takes its whole array at every point. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Point `t` reads rows `5000 t` onward of `x`. -/
theorem blk0 (c : Dev nD) (t : Fin cfg0.N) (r : Fin 5000) (k : Fin 128) (i : Fin 10000)
    (hi : i.val = t.val * 5000 + r.val) :
    iblk m c 0 t (ix2 r k) = m ((c : Thread nD τ).loc main_arg0) (ix2 i k) := by
  have h := index0 t
  blk_ext! [iblk, V, h]

/-- Every point reads the first gate's weights whole. -/
theorem blk1 (c : Dev nD) (t : Fin cfg0.N) (g : Fin 2) (r : Fin 256) (k : Fin 128) :
    iblk m c 1 t (ix3 g r k) = m ((c : Thread nD τ).loc main_arg3) (ix4 g 0 r k) := by
  have h := index1 t
  blk_ext! [iblk, V, h]

/-- Every point reads the second gate's weights whole. -/
theorem blk2 (c : Dev nD) (t : Fin cfg0.N) (g : Fin 2) (r : Fin 256) (k : Fin 128) :
    iblk m c 2 t (ix3 g r k) = m ((c : Thread nD τ).loc main_arg7) (ix4 g 0 r k) := by
  have h := index2 t
  blk_ext! [iblk, V, h]

/-- Every point reads the first gate's bias whole. -/
theorem blk3 (c : Dev nD) (t : Fin cfg0.N) (k : Fin 128) :
    iblk m c 3 t (ix2 0 k) = m ((c : Thread nD τ).loc main_arg4) (ix1 k) := by
  have h := index3 t
  blk_ext! [iblk, V, h]

/-- Every point reads the second gate's bias whole. -/
theorem blk4 (c : Dev nD) (t : Fin cfg0.N) (k : Fin 128) :
    iblk m c 4 t (ix2 0 k) = m ((c : Thread nD τ).loc main_arg8) (ix1 k) := by
  have h := index4 t
  blk_ext! [iblk, V, h]

/-- Every point reads the output layer's weights whole. -/
theorem blk5 (c : Dev nD) (t : Fin cfg0.N) (r k : Fin 128) :
    iblk m c 5 t (ix2 r k) = m ((c : Thread nD τ).loc main_arg9) (ix2 r k) := by
  have h := index5 t
  blk_ext! [iblk, V, h]

/-- Every point reads the output layer's bias whole. -/
theorem blk6 (c : Dev nD) (t : Fin cfg0.N) (k : Fin 128) :
    iblk m c 6 t (ix2 0 k) = m ((c : Thread nD τ).loc main_arg10) (ix1 k) := by
  have h := index6 t
  blk_ext! [iblk, V, h]

/-- THE KERNEL'S RESULT AT AN ENTRY: the activated hidden row, each gate with its two weights summed first, against the
    output layer's column. -/
theorem result_apply (c : Dev nD) (i : Fin 10000) (o : Fin 128) : G7 m c (ix2 i o) = Cell.entry
    (fun j => Cell.folded (fun k => m ((c : Thread nD τ).loc main_arg0) (ix2 i k))
      (fun k => m ((c : Thread nD τ).loc main_arg3) (ix4 0 0 ⟨k.val, by omega⟩ j))
      (fun k => m ((c : Thread nD τ).loc main_arg3) (ix4 1 0 ⟨k.val, by omega⟩ j))
      (m ((c : Thread nD τ).loc main_arg4) (ix1 j)))
    (fun j => Cell.folded (fun k => m ((c : Thread nD τ).loc main_arg0) (ix2 i k))
      (fun k => m ((c : Thread nD τ).loc main_arg7) (ix4 0 0 ⟨k.val, by omega⟩ j))
      (fun k => m ((c : Thread nD τ).loc main_arg7) (ix4 1 0 ⟨k.val, by omega⟩ j))
      (m ((c : Thread nD τ).loc main_arg8) (ix1 j)))
    (fun j => m ((c : Thread nD τ).loc main_arg9) (ix2 j o)) (m ((c : Thread nD τ).loc main_arg10) (ix1 o)) := by
  have hp : pt7Of (ix2 i o) = i.val / 5000 := by
    show 1 * (i.val / 5000 - 0) + 1 * (o.val / 128 - 0) = _
    omega
  have ht : pt7Of (ix2 i o) < cfg0.N := by
    rw [hp, show cfg0.N = 2 from N_0]
    omega
  have hl : loc7Of (ix2 i o) = ix2 (⟨i.val % 5000, Nat.mod_lt _ (by decide)⟩ : Fin 5000) o := by
    funext a
    fin_cases a
    · rfl
    · exact Fin.ext (Nat.mod_eq_of_lt o.isLt)
  have hr : ∀ k, iblk m c 0 ⟨pt7Of (ix2 i o), ht⟩ (ix2 (⟨i.val % 5000, Nat.mod_lt _ (by decide)⟩ : Fin 5000) k)
      = m ((c : Thread nD τ).loc main_arg0) (ix2 i k) := fun k => blk0 m c _ _ k i (by
    show i.val = pt7Of (ix2 i o) * 5000 + i.val % 5000
    rw [hp]
    omega)
  unfold G7
  rw [dif_pos ht, ← outsAt0_sweep m c _ ht, outsAt_eq m c ⟨_, ht⟩, hl]
  show rows _ _ _ _ _ _ _ = _
  rw [rows_apply]
  simp only [hr, packed_left_apply, packed_right_apply, lin_apply, blk1, blk2, blk3, blk4, blk5, blk6]
  rfl

end Cert.KernelIdeal.Block

end
-- ==== Proof.ReferenceValue.lean ====
module

public import proofs.«01_k».proof.Proof.Gen.ReferenceIdeal.Run
public import proofs.«01_k».proof.Proof.Cell

/-! What the reference's result array holds at each entry, in terms of the arguments. -/

@[expose] public section

noncomputable section

namespace Cert.ReferenceIdeal.Cell

open Idealize.ShloMosaic Idealize.ShloMosaic.TcCoe Idealize.ShloMosaic.StableHlo Idealize.SL.Sem
open Cert.ReferenceIdeal Cert.ReferenceIdeal.Gen Cert.ReferenceIdeal.Value

variable (V0 : Valuation τ sig (Elt Ideal))

/-- The update gate's padded input holds the row of `x` in its leading columns. -/
theorem inputZ_low (i : Fin 10000) (k : Fin 128) :
    res_main_v1 V0 (ix2 i ⟨k.val, by omega⟩) = V0 (Proc.devRef .tc main_arg0) (ix2 i k) := by
  unfold res_main_v1 res_main_v0
  pointwise

/-- The update gate's padded input is zero from column 128 on. -/
theorem inputZ_high (i : Fin 10000) (k : Fin 256) (hk : 128 ≤ k.val) : res_main_v1 V0 (ix2 i k) = (0 : EReal) := by
  unfold res_main_v1 res_main_v0
  pointwise
  exact dif_neg (by omega)

/-- The candidate's padded input holds the row of `x` in its leading columns. -/
theorem inputH_low (i : Fin 10000) (k : Fin 128) :
    res_main_v120 V0 (ix2 i ⟨k.val, by omega⟩) = V0 (Proc.devRef .tc main_arg0) (ix2 i k) := by
  unfold res_main_v120 res_main_v0
  pointwise

/-- The candidate's padded input is zero from column 128 on: the zero state through the reset gate. -/
theorem inputH_high (i : Fin 10000) (k : Fin 256) (hk : 128 ≤ k.val) : res_main_v120 V0 (ix2 i k) = (0 : EReal) := by
  unfold res_main_v120 res_main_v0
  pointwise
  rw [dif_neg (by omega), zero_mul]

/-- The update gate's value before the logistic function. -/
def preZ (i : Fin 10000) (j : Fin 128) : EReal :=
  Cert.Cell.split (fun k => V0 (Proc.devRef .tc main_arg0) (ix2 i k))
    (fun k => V0 (Proc.devRef .tc main_arg3) (ix4 0 0 ⟨k.val, by omega⟩ j))
    (fun k => V0 (Proc.devRef .tc main_arg3) (ix4 1 0 ⟨k.val, by omega⟩ j)) (V0 (Proc.devRef .tc main_arg4) (ix1 j))

/-- The candidate's value before the hyperbolic tangent. -/
def preH (i : Fin 10000) (j : Fin 128) : EReal :=
  Cert.Cell.split (fun k => V0 (Proc.devRef .tc main_arg0) (ix2 i k))
    (fun k => V0 (Proc.devRef .tc main_arg7) (ix4 0 0 ⟨k.val, by omega⟩ j))
    (fun k => V0 (Proc.devRef .tc main_arg7) (ix4 1 0 ⟨k.val, by omega⟩ j)) (V0 (Proc.devRef .tc main_arg8) (ix1 j))

/-- The update gate at an entry. -/
theorem gate_apply (i : Fin 10000) (j : Fin 128) :
    res_main_v59 V0 (ix2 i j) = Ideal.div 1 (1 + Ideal.exp (-preZ V0 i j)) := by
  unfold res_main_v59 preZ Cert.Cell.split
  pointwise
  rw [Cert.Cell.sum_padded _ (fun k => V0 (Proc.devRef .tc main_arg3) (ix4 0 0 k j)) _ _ (inputZ_low V0 i)
      (inputZ_high V0 i) (fun _ => rfl),
    Cert.Cell.sum_padded _ (fun k => V0 (Proc.devRef .tc main_arg3) (ix4 1 0 k j)) _ _ (inputZ_low V0 i)
      (inputZ_high V0 i) (fun _ => rfl)]

/-- The hidden state at an entry. -/
theorem hidden_apply (i : Fin 10000) (j : Fin 128) :
    res_main_v178 V0 (ix2 i j) = Cert.Cell.hidden (preZ V0 i j) (preH V0 i j) := by
  rw [← Cert.Cell.hidden_eq]
  unfold res_main_v178
  pointwise
  rw [gate_apply,
    Cert.Cell.sum_padded _ (fun k => V0 (Proc.devRef .tc main_arg7) (ix4 0 0 k j)) _ _ (inputH_low V0 i)
      (inputH_high V0 i) (fun _ => rfl),
    Cert.Cell.sum_padded _ (fun k => V0 (Proc.devRef .tc main_arg7) (ix4 1 0 k j)) _ _ (inputH_low V0 i)
      (inputH_high V0 i) (fun _ => rfl)]
  unfold res_main_v0
  pointwise
  rfl

/-- THE REFERENCE'S RESULT AT AN ENTRY: the activated hidden row against the output layer's column. -/
theorem result_apply (i : Fin 10000) (o : Fin 128) :
    (addf (Host.dotGeneral (φ₂ := .f32) dot_S10000x128_S128x128_S10000x128_1_0_0_1_n_n none
      (select (cmpf .ogt (res_main_v178 V0) (broadcastInDim S10000x128 ![] bcast_S_S10000x128 (constant S_ .f32 0x00000000#32)))
        (res_main_v178 V0)
        (mulf (broadcastInDim S10000x128 ![] bcast_S_S10000x128 (constant S_ .f32 0x3F800000#32))
          (Host.expm1 (select
            (cmpf .ogt (res_main_v178 V0) (broadcastInDim S10000x128 ![] bcast_S_S10000x128 (constant S_ .f32 0x00000000#32)))
            (broadcastInDim S10000x128 ![] bcast_S_S10000x128 (id (constant S_ .f32 0x00000000#32))) (res_main_v178 V0)))))
      (V0 (Proc.devRef .tc main_arg9)))
      (broadcastInDim S10000x128 ![0, 1] bcast_S1x128_S10000x128_0_1
        (broadcastInDim S1x128 ![1] bcast_S128_S1x128_1 (V0 (Proc.devRef .tc main_arg10)))) : FVec Ideal S10000x128 .f32)
      (ix2 i o) = Cert.Cell.entry (preZ V0 i) (preH V0 i) (fun j => V0 (Proc.devRef .tc main_arg9) (ix2 j o))
        (V0 (Proc.devRef .tc main_arg10) (ix1 o)) := by
  rw [id_eq]
  pointwise
  unfold Cert.Cell.entry
  simp only [← Cert.Cell.act_eq, hidden_apply]

end Cert.ReferenceIdeal.Cell

end
-- ==== Proof.Finite.lean ====
module

public import proofs.«01_k».proof.Pre_finite
public import proofs.«01_k».proof.Proof.Cell

/-! What the precondition says of each entry it bounds: the entry is a real number. -/

@[expose] public section

noncomputable section

namespace Cert.Pre_finite

open Idealize.ShloMosaic

variable [Facts] (a0 : FVec Ideal S10000x128 .f32) (a1 : IVec S2x320000 32) (a2 : FVec Ideal S320000 .f32)
  (a3 : FVec Ideal S2x1x256x128 .f32) (a4 : FVec Ideal S128 .f32) (a5 : FVec Ideal S2x1x256x128 .f32)
  (a6 : FVec Ideal S128 .f32) (a7 : FVec Ideal S2x1x256x128 .f32) (a8 : FVec Ideal S128 .f32)
  (a9 : FVec Ideal S128x128 .f32) (a10 : FVec Ideal S128 .f32)

/-- A comparison word that is one says that the comparison holds. -/
theorem lt_of_word {a b : EReal} (h : BitVec.ofBool (decide (a < b)) = 1#1) : a < b := by
  by_contra hn
  rw [decide_eq_false hn] at h
  exact absurd h (by decide)

/-- Every entry of `x` is a real number. -/
theorem x_real (h : (fn (F := Ideal) a0 a1 a2 a3 a4 a5 a6 a7 a8 a9 a10).1 = fun _ => 1#1) (i : Fin 10000) (k : Fin 128) :
    ∃ r : ℝ, a0 (ix2 i k) = (r : EReal) := by
  have e := congrFun h (ix2 i k)
  revert e
  unfold fn
  dsimp only
  pointwise
  intro e
  rw [Cell.inf_word] at e
  exact Cell.exists_real_of_abs_lt (lt_of_word e)

/-- Every entry of the update gate's leading 128 rows is a real number. -/
theorem wz_real (h : (fn (F := Ideal) a0 a1 a2 a3 a4 a5 a6 a7 a8 a9 a10).2.1 = fun _ => 1#1) (g : Fin 2) (k j : Fin 128) :
    ∃ r : ℝ, a3 (ix4 g 0 ⟨k.val, by omega⟩ j) = (r : EReal) := by
  have e := congrFun h (ix4 g 0 k j)
  revert e
  unfold fn
  dsimp only
  pointwise
  intro e
  rw [Cell.inf_word] at e
  exact Cell.exists_real_of_abs_lt (lt_of_word e)

/-- Every entry of the candidate's leading 128 rows is a real number. -/
theorem wh_real (h : (fn (F := Ideal) a0 a1 a2 a3 a4 a5 a6 a7 a8 a9 a10).2.2 = fun _ => 1#1) (g : Fin 2) (k j : Fin 128) :
    ∃ r : ℝ, a7 (ix4 g 0 ⟨k.val, by omega⟩ j) = (r : EReal) := by
  have e := congrFun h (ix4 g 0 k j)
  revert e
  unfold fn
  dsimp only
  pointwise
  intro e
  rw [Cell.inf_word] at e
  exact Cell.exists_real_of_abs_lt (lt_of_word e)

end Cert.Pre_finite

end
-- ==== Proof.lean ====
module

public import proofs.«01_k».proof.Defs
public import proofs.«01_k».proof.Proof.Gen.Kernel.Frame
public import proofs.«01_k».proof.Proof.Gen.Pre_finite
public import proofs.«01_k».proof.Proof.KernelValue
public import proofs.«01_k».proof.Proof.ReferenceValue
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- Every run of the reference ends, its arguments as launched and no semaphore left counting. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that meet the precondition. -/
theorem quiescent_ReferenceIdeal_pre_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, with finite `x` and finite leading rows of the two gates' weights, the
    kernel and the reference end with the same result. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨hx, hz, hh⟩ := hpre c
  obtain ⟨e0, -, -, e3, e4, -, -, e7, e8, e9, e10⟩ := hagree c
  rw [(h c).1]
  refine funext fun (y : Cert.KernelIdeal.S10000x128.Idx) => ?_
  obtain ⟨i, o, rfl⟩ : ∃ (i : Fin 10000) (o : Fin 128), y = ix2 i o := ⟨y 0, y 1, by
    funext a
    fin_cases a <;> rfl⟩
  refine (Cert.ReferenceIdeal.Cell.result_apply (StableHlo.launchContents m' c) i o).trans ?_
  refine Eq.trans ?_ (Cert.KernelIdeal.Block.result_apply m c i o).symm
  unfold Cert.ReferenceIdeal.Cell.preZ Cert.ReferenceIdeal.Cell.preH
  have f0 : StableHlo.launchContents m' c (Proc.devRef .tc Cert.ReferenceIdeal.main_arg0)
    = m ((c.tc : Thread Cert.KernelIdeal.nD Cert.KernelIdeal.τ).loc Cert.KernelIdeal.main_arg0) := e0
  have f3 : StableHlo.launchContents m' c (Proc.devRef .tc Cert.ReferenceIdeal.main_arg3)
    = m ((c.tc : Thread Cert.KernelIdeal.nD Cert.KernelIdeal.τ).loc Cert.KernelIdeal.main_arg3) := e3
  have f4 : StableHlo.launchContents m' c (Proc.devRef .tc Cert.ReferenceIdeal.main_arg4)
    = m ((c.tc : Thread Cert.KernelIdeal.nD Cert.KernelIdeal.τ).loc Cert.KernelIdeal.main_arg4) := e4
  have f7 : StableHlo.launchContents m' c (Proc.devRef .tc Cert.ReferenceIdeal.main_arg7)
    = m ((c.tc : Thread Cert.KernelIdeal.nD Cert.KernelIdeal.τ).loc Cert.KernelIdeal.main_arg7) := e7
  have f8 : StableHlo.launchContents m' c (Proc.devRef .tc Cert.ReferenceIdeal.main_arg8)
    = m ((c.tc : Thread Cert.KernelIdeal.nD Cert.KernelIdeal.τ).loc Cert.KernelIdeal.main_arg8) := e8
  have f9 : StableHlo.launchContents m' c (Proc.devRef .tc Cert.ReferenceIdeal.main_arg9)
    = m ((c.tc : Thread Cert.KernelIdeal.nD Cert.KernelIdeal.τ).loc Cert.KernelIdeal.main_arg9) := e9
  have f10 : StableHlo.launchContents m' c (Proc.devRef .tc Cert.ReferenceIdeal.main_arg10)
    = m ((c.tc : Thread Cert.KernelIdeal.nD Cert.KernelIdeal.τ).loc Cert.KernelIdeal.main_arg10) := e10
  rw [f0, f3, f4, f7, f8, f9, f10]
  refine congrArg₂ (fun a b => Cert.Cell.entry a b _ _) (funext fun j => ?_) (funext fun j => ?_)
  · exact (Cert.Cell.folded_eq_split _ _ _ _ (Cert.Pre_finite.x_real _ _ _ _ _ _ _ _ _ _ _ hx i)
      (fun k => Cert.Pre_finite.wz_real _ _ _ _ _ _ _ _ _ _ _ hz 0 k j)
      (fun k => Cert.Pre_finite.wz_real _ _ _ _ _ _ _ _ _ _ _ hz 1 k j)).symm
  · exact (Cert.Cell.folded_eq_split _ _ _ _ (Cert.Pre_finite.x_real _ _ _ _ _ _ _ _ _ _ _ hx i)
      (fun k => Cert.Pre_finite.wh_real _ _ _ _ _ _ _ _ _ _ _ hh 0 k j)
      (fun k => Cert.Pre_finite.wh_real _ _ _ _ _ _ _ _ _ _ _ hh 1 k j)).symm

/-- The whole claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, quiescent_ReferenceIdeal, quiescent_ReferenceIdeal_pre_finite,
    (trivial : preserves_Kernel_KernelIdeal), algebraic_KernelIdeal_ReferenceIdeal_pre_finite⟩

end Cert.Proof

end
